-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounds_partition [hPre_bounds_partition : Cert.Pre_bounds_partition.Facts] (m : (ℓ : Loc Cert.KernelIdeal.nD Cert.KernelIdeal.τ Cert.KernelIdeal.sig) → Buf (Elt Ideal) ℓ) : Prop :=
  ∀ c : Dev Cert.KernelIdeal.nD,
    (Cert.Pre_bounds_partition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounds_partition [hPre_bounds_partition : Cert.Pre_bounds_partition.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounds_partition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_bounds_partition [hKernelIdeal : Cert.KernelIdeal.Facts] [hPre_bounds_partition : Cert.Pre_bounds_partition.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounds_partition m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_bounds_partition [hReferenceIdeal : Cert.ReferenceIdeal.Facts] [hPre_bounds_partition : Cert.Pre_bounds_partition.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounds_partition m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_bounds_partition [hKernelIdeal : Cert.KernelIdeal.Facts] [hReferenceIdeal : Cert.ReferenceIdeal.Facts] [hPre_bounds_partition : Cert.Pre_bounds_partition.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounds_partition m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_bounds_partition : Cert.Pre_bounds_partition.Facts),
    quiescent_Kernel (hKernel := hKernel)
    ∧ quiescent_KernelIdeal (hKernelIdeal := hKernelIdeal)
    ∧ quiescent_KernelIdeal_pre_bounds_partition (hKernelIdeal := hKernelIdeal) (hPre_bounds_partition := hPre_bounds_partition)
    ∧ quiescent_ReferenceIdeal (hReferenceIdeal := hReferenceIdeal)
    ∧ quiescent_ReferenceIdeal_pre_bounds_partition (hReferenceIdeal := hReferenceIdeal) (hPre_bounds_partition := hPre_bounds_partition)
    ∧ preserves_Kernel_KernelIdeal
    ∧ algebraic_KernelIdeal_ReferenceIdeal_pre_bounds_partition (hKernelIdeal := hKernelIdeal) (hReferenceIdeal := hReferenceIdeal) (hPre_bounds_partition := hPre_bounds_partition)
-- ==== Pre_bounds_partition.lean ====
abbrev S16384x512 : Shape := ⟨2, ![16384, 512]⟩
abbrev S17 : Shape := ⟨1, ![17]⟩
abbrev S512x2048 : Shape := ⟨2, ![512, 2048]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S1 : Shape := ⟨1, ![1]⟩
abbrev S_ : Shape := ⟨0, ![]⟩
abbrev S16 : Shape := ⟨1, ![16]⟩

class Facts : Prop where
  slices_S17_S1_0 : S17.Slices ![0] S1
  bcast_S_S1 : S_.BroadcastsInDim S1 (![] : Fin 0 → Fin S1.rank)
  slices_S17_S1_16 : S17.Slices ![16] S1
  slices_S17_S16_0 : S17.Slices ![0] S16
  slices_S17_S16_1 : S17.Slices ![1] S16
  bcast_S1_S16_0 : S1.BroadcastsInDim S16 (![0] : Fin 1 → Fin S16.rank)

variable [Facts]

def fn {F : FTy → Type} [FloatOps F] (main_arg0 : FVec F S16384x512 .f32) (main_arg1 : IVec S17 32) (main_arg2 : FVec F S512x2048 .f32) (main_arg3 : FVec F S2048 .f32) (main_arg4 : FVec F S2048x2048 .f32) (main_arg5 : FVec F S2048 .f32) (main_arg6 : FVec F S2048x64 .f32) (main_arg7 : FVec F S64 .f32) : IVec S16 1 :=
  let main_v0 : IVec S1 32 := (extractStridedSlice S1 ![0] · slices_S17_S1_0) main_arg1
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![16] · slices_S17_S1_16) main_arg1
  let main_c_0 : IVec S_ 32 := constantI S_ 32 16384#32
  let main_v4 : IVec S1 32 := broadcastInDim S1 ![] bcast_S_S1 main_c_0
  let main_v5 : IVec S1 1 := cmpi .eq main_v3 main_v4
  let main_v6 : IVec S1 1 := andi main_v2 main_v5
  let main_v7 : IVec S16 32 := (extractStridedSlice S16 ![0] · slices_S17_S16_0) main_arg1
  let main_v8 : IVec S16 32 := (extractStridedSlice S16 ![1] · slices_S17_S16_1) main_arg1
  let main_v9 : IVec S16 1 := cmpi .sle main_v7 main_v8
  let main_v10 : IVec S16 1 := broadcastInDim S16 ![0] bcast_S1_S16_0 main_v6
  let main_v11 : IVec S16 1 := andi main_v10 main_v9
  main_v11
-- ==== Kernel.lean ====
abbrev S16384x512 : Shape := ⟨2, ![16384, 512]⟩
abbrev S17 : Shape := ⟨1, ![17]⟩
abbrev S512x2048 : Shape := ⟨2, ![512, 2048]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S1x2048 : Shape := ⟨2, ![1, 2048]⟩
abbrev S1x64 : Shape := ⟨2, ![1, 64]⟩
abbrev S16x64 : Shape := ⟨2, ![16, 64]⟩
abbrev S2048x512 : Shape := ⟨2, ![2048, 512]⟩
abbrev S16x2048 : Shape := ⟨2, ![16, 2048]⟩
abbrev S1024x512 : Shape := ⟨2, ![1024, 512]⟩
abbrev S1024x2048 : Shape := ⟨2, ![1024, 2048]⟩
abbrev S1 : Shape := ⟨1, ![1]⟩
abbrev S16 : Shape := ⟨1, ![16]⟩
abbrev S16x1 : Shape := ⟨2, ![16, 1]⟩
abbrev S16x1024 : Shape := ⟨2, ![16, 1024]⟩

abbrev nBuf : Space → Nat
  | .hbm => 11
  | .vmem => 10
  | .smem => 1
  | _ => 0

abbrev bufTy : (tb : Table) → Fin (tcTables nBuf tb) → BufTy
  | .hbm, ⟨0, _⟩ => ⟨S16384x512, .f32⟩
  | .hbm, ⟨1, _⟩ => ⟨S512x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x64, .f32⟩
  | .hbm, ⟨6, _⟩ => ⟨S64, .f32⟩
  | .hbm, ⟨7, _⟩ => ⟨S1x2048, .f32⟩
  | .hbm, ⟨8, _⟩ => ⟨S1x2048, .f32⟩
  | .hbm, ⟨9, _⟩ => ⟨S1x64, .f32⟩
  | .hbm, ⟨10, _⟩ => ⟨S16x64, .f32⟩
  | .local _ .vmem, ⟨0, _⟩ => ⟨S2048x512, .f32⟩
  | .local _ .vmem, ⟨1, _⟩ => ⟨S2048x512, .f32⟩
  | .local _ .vmem, ⟨2, _⟩ => ⟨S512x2048, .f32⟩
  | .local _ .vmem, ⟨3, _⟩ => ⟨S1x2048, .f32⟩
  | .local _ .vmem, ⟨4, _⟩ => ⟨S2048x2048, .f32⟩
  | .local _ .vmem, ⟨5, _⟩ => ⟨S1x2048, .f32⟩
  | .local _ .vmem, ⟨6, _⟩ => ⟨S2048x64, .f32⟩
  | .local _ .vmem, ⟨7, _⟩ => ⟨S1x64, .f32⟩
  | .local _ .vmem, ⟨8, _⟩ => ⟨S16x64, .f32⟩
  | .local _ .vmem, ⟨9, _⟩ => ⟨S16x2048, .f32⟩
  | .local _ .smem, ⟨0, _⟩ => ⟨S17, .i32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg0 : BitVec 32 := BitVec.ofNat 32 (i 0).val
  let c7_i32 : BitVec 32 := 7#32
  let v126 : BitVec 1 := Scalar.cmpi .eq arg0 c7_i32
  let v127 : BitVec 32 := Scalar.extui v126
  let c0_i32_46 : BitVec 32 := 0#32
  let v128 : BitVec 1 := Scalar.cmpi .ne v127 c0_i32_46
  v128

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16384x512 : Shape := ⟨2, ![16384, 512]⟩
abbrev S17 : Shape := ⟨1, ![17]⟩
abbrev S512x2048 : Shape := ⟨2, ![512, 2048]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S16384x2048 : Shape := ⟨2, ![16384, 2048]⟩
abbrev S1x2048 : Shape := ⟨2, ![1, 2048]⟩
abbrev S_ : Shape := ⟨0, ![]⟩
abbrev S16384x64 : Shape := ⟨2, ![16384, 64]⟩
abbrev S1x64 : Shape := ⟨2, ![1, 64]⟩
abbrev S16384 : Shape := ⟨1, ![16384]⟩
abbrev S1x17 : Shape := ⟨2, ![1, 17]⟩
abbrev S16384x1 : Shape := ⟨2, ![16384, 1]⟩
abbrev S16384x17 : Shape := ⟨2, ![16384, 17]⟩
abbrev S16x64 : Shape := ⟨2, ![16, 64]⟩

abbrev nBuf : Space → Nat
  | .hbm => 50
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S17, .i32⟩
  | .hbm, ⟨2, _⟩ => ⟨S512x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x64, .f32⟩
  | .hbm, ⟨7, _⟩ => ⟨S64, .f32⟩
  | .hbm, ⟨8, _⟩ => ⟨S16384x2048, .f32⟩
  | .hbm, ⟨9, _⟩ => ⟨S1x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S16384x64, .f32⟩
  | .hbm, ⟨23, _⟩ => ⟨S1x64, .f32⟩
  | .hbm, ⟨24, _⟩ => ⟨S16384x64, .f32⟩
  | .hbm, ⟨25, _⟩ => ⟨S16384x64, .f32⟩
  | .hbm, ⟨26, _⟩ => ⟨S16384, .i32⟩
  | .hbm, ⟨27, _⟩ => ⟨S1x17, .i32⟩
  | .hbm, ⟨28, _⟩ => ⟨S16384x1, .i32⟩
  | .hbm, ⟨29, _⟩ => ⟨S16384x17, .i32⟩
  | .hbm, ⟨30, _⟩ => ⟨S16384x17, .i32⟩
  | .hbm, ⟨31, _⟩ => ⟨S16384x17, .i1⟩
  | .hbm, ⟨32, _⟩ => ⟨S16384x17, .i32⟩
  | .hbm, ⟨33, _⟩ => ⟨S_, .i32⟩
  | .hbm, ⟨34, _⟩ => ⟨S16384, .i32⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S16384, .i32⟩
  | .hbm, ⟨42, _⟩ => ⟨S16384, .i32⟩
  | .hbm, ⟨43, _⟩ => ⟨S_, .i32⟩
  | .hbm, ⟨44, _⟩ => ⟨S16384, .i32⟩
  | .hbm, ⟨45, _⟩ => ⟨S16384, .i32⟩
  | .hbm, ⟨46, _⟩ => ⟨S_, .f32⟩
  | .hbm, ⟨47, _⟩ => ⟨S16x64, .f32⟩
  | .hbm, ⟨48, _⟩ => ⟨S16384x1, .i32⟩
  | .hbm, ⟨49, _⟩ => ⟨S16x64, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_c_0 : Ref sig .tc := ⟨.hbm, 35, rfl⟩
abbrev main_v22 : Ref sig .tc := ⟨.hbm, 36, rfl⟩
abbrev main_v23 : Ref sig .tc := ⟨.hbm, 37, rfl⟩
abbrev main_c_1 : Ref sig .tc := ⟨.hbm, 38, rfl⟩
abbrev main_c_2 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Proof.Pieces.lean ====
/- What one grid point of the kernel leaves behind, as terms of the blocks it sees: in the accumulator after a first, a middle and the
   last grid point, and in the result's block after the last. A block is taken in two halves of 1024 rows. -/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Value

open Idealize.ShloMosaic Idealize.ShloMosaic.TcCoe Idealize.SL.Sem
open Idealize.ShloMosaic.Pipeline (Dat)

/-- Boundary number `k` of the table, as a 32-bit word. -/
def word (T : IVec S17 32) (k : ℕ) : BitVec 32 := T (ix1 (Fin.ofNat 17 k))

/-- The kernel's read of one word of the table is that boundary. -/
theorem word_read (T : IVec S17 32) (k : ℕ) (hk : k < 17) (inb) (hf) :
    View.ld (View.read (Elt Ideal) (View.whole main_arg1) T) (Rect.unit (s := S17) ![k] ![1] inb) (Shape.Idx.first hf) = word T k := by
  refine congrArg T (funext fun a => ?_)
  match a with
  | ⟨0, _⟩ => exact Fin.ext (Nat.mod_eq_of_lt hk).symm

/-- The column of the sixteen segments' first tokens, as the kernel assembles it. -/
def lo (T : IVec S17 32) : IVec S16x1 32 := Gen.k0_pay9 (F := Ideal) (word T 0) (word T 1) (word T 2) (word T 3) (word T 4) (word T 5) (word T 6) (word T 7) (word T 8) (word T 9) (word T 10) (word T 11) (word T 12) (word T 13) (word T 14) (word T 15)

/-- The column of the sixteen segments' ends, as the kernel assembles it. -/
def hi (T : IVec S17 32) : IVec S16x1 32 := Gen.k0_pay10 (F := Ideal) (word T 1) (word T 2) (word T 3) (word T 4) (word T 5) (word T 6) (word T 7) (word T 8) (word T 9) (word T 10) (word T 11) (word T 12) (word T 13) (word T 14) (word T 15) (word T 16)

/-- The kernel's 0/1 matrix at grid position `n`: row `s`, column `i` is 1 where the block's token `i` lies in segment `s`. -/
def mask (n : BitVec 32) (T : IVec S17 32) : FVec Ideal S16x2048 .f32 :=
  Gen.k0_pay11 (F := Ideal) (Gen.k0_pay8 n) (lo T) (word T 1) (word T 2) (word T 3) (word T 4) (word T 5) (word T 6) (word T 7) (word T 8) (word T 9) (word T 10) (word T 11) (word T 12) (word T 13) (word T 14) (word T 15) (word T 16)

/-- The block's first 1024 rows. -/
def upper (x0 : FVec Ideal S2048x512 .f32) : FVec Ideal S1024x512 .f32 :=
  View.ld (Val := Elt Ideal) (e' := .f32) x0 (Rect.unit ![0, 0] ![1024, 512] Gen.inb_S2048x512_S1024x512_0_0)

/-- The block's last 1024 rows. -/
def lower (x0 : FVec Ideal S2048x512 .f32) : FVec Ideal S1024x512 .f32 :=
  View.ld (Val := Elt Ideal) (e' := .f32) x0 (Rect.unit ![1024, 0] ![1024, 512] Gen.inb_S2048x512_S1024x512_1024_0)

/-- What one block adds to the pooled hidden rows, as the kernel computes it: the mask's left half times the hidden rows of the
    block's first half, plus its right half times those of the second. -/
def part (n : BitVec 32) (T : IVec S17 32) (x0 : FVec Ideal S2048x512 .f32) (x1 : FVec Ideal S512x2048 .f32) (x2 : FVec Ideal S1x2048 .f32)
    (x3 : FVec Ideal S2048x2048 .f32) (x4 : FVec Ideal S1x2048 .f32) : FVec Ideal S16x2048 .f32 :=
  Gen.k0_pay1 (Gen.k0_pay7 (Gen.k0_pay6 (lower x0) x1 x2 x3 x4)) (mask n T)
    (Gen.k0_pay12 (Gen.k0_pay5 (upper x0) x1 x2 x3 x4) (Gen.k0_pay8 n) (lo T) (word T 1) (word T 2) (word T 3) (word T 4) (word T 5) (word T 6) (word T 7) (word T 8) (word T 9) (word T 10) (word T 11) (word T 12) (word T 13) (word T 14) (word T 15) (word T 16))

/-- The first grid point leaves its block's contribution in the accumulator. -/
theorem scratch_first (c : Dev nD) (i : grid0.Coords) {a2} {h2} {a3} {h3} {a4} {h4} {a5} {h5} {a6} {h6} {a7} {h7} {a8} {h8} {a9} {h9} {a10} {h10} {p0} {p1} {p2} (x0 : FVec Ideal S2048x512 .f32) (x1 : FVec Ideal S512x2048 .f32) (x2 : FVec Ideal S1x2048 .f32)
    (x3 : FVec Ideal S2048x2048 .f32) (x4 : FVec Ideal S1x2048 .f32) (x5 : FVec Ideal S2048x64 .f32) (x6 : FVec Ideal S1x64 .f32) (T : IVec S17 32) :
    Gen.sout0_A_0 (F := Ideal) c i a2 h2 a3 h3 a4 h4 a5 h5 a6 h6 a7 h7 a8 h8 a9 h9 a10 h10 p0 p1 p2 x0 x1 x2 x3 x4 x5 x6 T
      = shapeCast S16x2048 (part (BitVec.ofNat 32 (i 0).val) T x0 x1 x2 x3 x4) Gen.shapeCasts_S16x2048_S16x2048 := by
  frame_out
  simp only [word_read _ 0 (by decide), word_read _ 1 (by decide), word_read _ 2 (by decide), word_read _ 3 (by decide), word_read _ 4 (by decide), word_read _ 5 (by decide), word_read _ 6 (by decide), word_read _ 7 (by decide), word_read _ 8 (by decide), word_read _ 9 (by decide), word_read _ 10 (by decide), word_read _ 11 (by decide), word_read _ 12 (by decide), word_read _ 13 (by decide), word_read _ 14 (by decide), word_read _ 15 (by decide), word_read _ 16 (by decide)]
  rfl

/-- A middle grid point adds its block's contribution to the accumulator it finds. -/
theorem scratch_middle (c : Dev nD) (i : grid0.Coords) {a2} {h2} {a3} {h3} {a4} {h4} {a5} {h5} {a6} {h6} {a7} {h7} {a8} {h8} {a9} {h9} {a10} {h10} {p0} {p1} {p2} (x0 : FVec Ideal S2048x512 .f32) (x1 : FVec Ideal S512x2048 .f32) (x2 : FVec Ideal S1x2048 .f32)
    (x3 : FVec Ideal S2048x2048 .f32) (x4 : FVec Ideal S1x2048 .f32) (x5 : FVec Ideal S2048x64 .f32) (x6 : FVec Ideal S1x64 .f32) (T : IVec S17 32)
    (acc : FVec Ideal S16x2048 .f32) :
    Gen.sout0_B_0 (F := Ideal) c i a2 h2 a3 h3 a4 h4 a5 h5 a6 h6 a7 h7 a8 h8 a9 h9 a10 h10 p0 p1 p2 x0 x1 x2 x3 x4 x5 x6 T acc
      = shapeCast S16x2048 (addf acc (part (BitVec.ofNat 32 (i 0).val) T x0 x1 x2 x3 x4)) Gen.shapeCasts_S16x2048_S16x2048 := by
  frame_out
  simp only [word_read _ 0 (by decide), word_read _ 1 (by decide), word_read _ 2 (by decide), word_read _ 3 (by decide), word_read _ 4 (by decide), word_read _ 5 (by decide), word_read _ 6 (by decide), word_read _ 7 (by decide), word_read _ 8 (by decide), word_read _ 9 (by decide), word_read _ 10 (by decide), word_read _ 11 (by decide), word_read _ 12 (by decide), word_read _ 13 (by decide), word_read _ 14 (by decide), word_read _ 15 (by decide), word_read _ 16 (by decide)]
  rfl

/-- So does the last grid point, -/
theorem scratch_last (c : Dev nD) (i : grid0.Coords) {a2} {h2} {a3} {h3} {a4} {h4} {a5} {h5} {a6} {h6} {a7} {h7} {a8} {h8} {a9} {h9} {a10} {h10} {p0} {p1} {p2} (x0 : FVec Ideal S2048x512 .f32) (x1 : FVec Ideal S512x2048 .f32) (x2 : FVec Ideal S1x2048 .f32)
    (x3 : FVec Ideal S2048x2048 .f32) (x4 : FVec Ideal S1x2048 .f32) (x5 : FVec Ideal S2048x64 .f32) (x6 : FVec Ideal S1x64 .f32) (T : IVec S17 32)
    (acc : FVec Ideal S16x2048 .f32) :
    Gen.sout0_C_0 (F := Ideal) c i a2 h2 a3 h3 a4 h4 a5 h5 a6 h6 a7 h7 a8 h8 a9 h9 a10 h10 p0 p1 p2 x0 x1 x2 x3 x4 x5 x6 T acc
      = shapeCast S16x2048 (addf acc (part (BitVec.ofNat 32 (i 0).val) T x0 x1 x2 x3 x4)) Gen.shapeCasts_S16x2048_S16x2048 := by
  frame_out
  simp only [word_read _ 0 (by decide), word_read _ 1 (by decide), word_read _ 2 (by decide), word_read _ 3 (by decide), word_read _ 4 (by decide), word_read _ 5 (by decide), word_read _ 6 (by decide), word_read _ 7 (by decide), word_read _ 8 (by decide), word_read _ 9 (by decide), word_read _ 10 (by decide), word_read _ 11 (by decide), word_read _ 12 (by decide), word_read _ 13 (by decide), word_read _ 14 (by decide), word_read _ 15 (by decide), word_read _ 16 (by decide)]
  rfl

/-- which then stores the last layer's result on the finished accumulator. -/
theorem output_last (c : Dev nD) (i : grid0.Coords) {a2} {h2} {a3} {h3} {a4} {h4} {a5} {h5} {a6} {h6} {a7} {h7} {a8} {h8} {a9} {h9} {a10} {h10} {p0} {p1} {p2} (x0 : FVec Ideal S2048x512 .f32) (x1 : FVec Ideal S512x2048 .f32) (x2 : FVec Ideal S1x2048 .f32)
    (x3 : FVec Ideal S2048x2048 .f32) (x4 : FVec Ideal S1x2048 .f32) (x5 : FVec Ideal S2048x64 .f32) (x6 : FVec Ideal S1x64 .f32) (T : IVec S17 32)
    (acc : FVec Ideal S16x2048 .f32) :
    Gen.out0_C_7 (F := Ideal) c i a2 h2 a3 h3 a4 h4 a5 h5 a6 h6 a7 h7 a8 h8 a9 h9 a10 h10 p0 p1 p2 x0 x1 x2 x3 x4 x5 x6 T acc
      = Gen.k0_pay4 (lo T) (hi T)
          (shapeCast S16x2048 (addf acc (part (BitVec.ofNat 32 (i 0).val) T x0 x1 x2 x3 x4)) Gen.shapeCasts_S16x2048_S16x2048) x5 x6 := by
  frame_out
  simp only [word_read _ 0 (by decide), word_read _ 1 (by decide), word_read _ 2 (by decide), word_read _ 3 (by decide), word_read _ 4 (by decide), word_read _ 5 (by decide), word_read _ 6 (by decide), word_read _ 7 (by decide), word_read _ 8 (by decide), word_read _ 9 (by decide), word_read _ 10 (by decide), word_read _ 11 (by decide), word_read _ 12 (by decide), word_read _ 13 (by decide), word_read _ 14 (by decide), word_read _ 15 (by decide), word_read _ 16 (by decide)]
  rfl

end Cert.KernelIdeal.Value
-- ==== Proof.Segments.lean ====
/- The integers of the problem: seventeen boundaries that cut the 16384 tokens into sixteen consecutive segments, some of them
   possibly empty. Nothing here names a program or a float. -/
module

public import Mathlib.Data.Fin.Basic
public import Mathlib.Data.Fintype.Card
public import Mathlib.Order.Fin.Basic
public import Mathlib.Order.Interval.Finset.Nat
public import Mathlib.Algebra.BigOperators.Fin
public import Mathlib.Tactic.Positivity

@[expose] public section

namespace Cert.Segments

/-- The boundaries start at token 0, end at token 16384, and never decrease. -/
structure Partition (cu : Fin 17 → ℤ) : Prop where
  first : cu 0 = 0
  last : cu 16 = 16384
  step : ∀ s : Fin 16, cu s.castSucc ≤ cu s.succ

/-- Token `i` lies in segment `s`: from boundary `s` on, before boundary `s + 1`. -/
def InSeg (cu : Fin 17 → ℤ) (s : Fin 16) (i : ℕ) : Prop := cu s.castSucc ≤ i ∧ (i : ℤ) < cu s.succ

instance (cu : Fin 17 → ℤ) (s : Fin 16) (i : ℕ) : Decidable (InSeg cu s i) := inferInstanceAs (Decidable (_ ∧ _))

/-- How many of the seventeen boundaries are at or before token `i`. -/
def count (cu : Fin 17 → ℤ) (i : ℕ) : ℕ := (Finset.univ.filter fun j : Fin 17 => cu j ≤ i).card

variable {cu : Fin 17 → ℤ}

/-- A later boundary is not smaller. -/
theorem Partition.monotone (h : Partition cu) : Monotone cu := Fin.monotone_iff_le_succ.2 h.step

/-- No boundary is negative. -/
theorem Partition.nonneg (h : Partition cu) (j : Fin 17) : 0 ≤ cu j := h.first ▸ h.monotone (Fin.zero_le j)

/-- No boundary lies past the last token's end. -/
theorem Partition.le_last (h : Partition cu) (j : Fin 17) : cu j ≤ 16384 := h.last ▸ h.monotone (Fin.le_last j)

/-- Every token lies in some segment. -/
theorem Partition.exists_seg (h : Partition cu) (i : ℕ) (hi : i < 16384) : ∃ s, InSeg cu s i := by
  by_contra hn
  have below : ∀ j : Fin 17, cu j ≤ i := by
    intro j
    induction j using Fin.induction with
    | zero => rw [h.first]; positivity
    | succ s ih => exact not_lt.1 fun hlt => hn ⟨s, ih, hlt⟩
  have := below 16
  rw [h.last] at this
  omega

/-- In segment `s`, the boundaries at or before the token are boundaries 0 to `s`: there are `s + 1` of them. -/
theorem Partition.count_eq (h : Partition cu) {s : Fin 16} {i : ℕ} (hs : InSeg cu s i) : count cu i = s.val + 1 := by
  have : (Finset.univ.filter fun j : Fin 17 => cu j ≤ i) = Finset.Iic s.castSucc := by
    ext j
    simp only [Finset.mem_filter, Finset.mem_univ, true_and, Finset.mem_Iic]
    constructor
    · intro hj
      by_contra hlt
      have h1 : s.succ ≤ j := Fin.castSucc_lt_iff_succ_le.1 (not_le.1 hlt)
      have h2 := h.monotone h1
      have h3 := hs.2
      omega
    · intro hj
      exact (h.monotone hj).trans hs.1
  rw [count, this, Fin.card_Iic]
  rfl

/-- The count less one, clipped to 0 … 15, is `s` exactly for the tokens of segment `s`. -/
theorem Partition.clip_iff (h : Partition cu) (s : Fin 16) (i : ℕ) (hi : i < 16384) :
    min (15 : ℤ) (max 0 ((count cu i : ℤ) - 1)) = s.val ↔ InSeg cu s i := by
  obtain ⟨s', hs'⟩ := h.exists_seg i hi
  have hc := h.count_eq hs'
  have hb := s'.isLt
  constructor
  · intro he
    have : s' = s := Fin.ext (by omega)
    exact this ▸ hs'
  · intro hs
    have hc' := h.count_eq hs
    have hb' := s.isLt
    omega

/-- Segment `s` has as many tokens as its two boundaries are apart. -/
theorem Partition.card_seg (h : Partition cu) (s : Fin 16) :
    ((Finset.univ.filter fun i : Fin 16384 => InSeg cu s i.val).card : ℤ) = cu s.succ - cu s.castSucc := by
  obtain ⟨a, ha⟩ := Int.eq_ofNat_of_zero_le (h.nonneg s.castSucc)
  obtain ⟨b, hb⟩ := Int.eq_ofNat_of_zero_le (h.nonneg s.succ)
  have hab := h.step s
  have hle := h.le_last s.succ
  have hmap : (Finset.univ.filter fun i : Fin 16384 => InSeg cu s i.val).map Fin.valEmbedding = Finset.Ico a b := by
    ext n
    simp only [Finset.mem_map, Finset.mem_filter, Finset.mem_univ, true_and, Fin.valEmbedding_apply, Finset.mem_Ico, InSeg, ha, hb]
    constructor
    · rintro ⟨i, hi, rfl⟩
      omega
    · intro hn
      exact ⟨⟨n, by omega⟩, by constructor <;> simp only [] <;> omega, rfl⟩
  rw [← Finset.card_map Fin.valEmbedding, hmap, Nat.card_Ico, ha, hb]
  omega

end Cert.Segments
-- ==== Proof.Maths.lean ====
/- The mathematics both programs compute, over the extended reals and plain functions of indices, and the one equation between
   them. Nothing here names a program. No value is assumed finite: the hidden activations are nonnegative, and that is what
   moving a product out of a sum of them needs. -/
module

public import proofs.«01_k».proof.Proof.Segments
public import Mathlib.Data.EReal.Operations
public import Mathlib.Data.EReal.Inv

@[expose] public section

noncomputable section

namespace Cert.Maths

open Cert.Segments

/-- One dense layer with a rectifier, on one row `x`: entry `k` of `max (x · W + b) 0`. -/
def layer {n p : ℕ} (x : Fin n → EReal) (W : Fin n → Fin p → EReal) (b : Fin p → EReal) (k : Fin p) : EReal :=
  max ((∑ l, x l * W l k) + b k) 0

/-- A rectified entry is not negative. -/
theorem layer_nonneg {n p : ℕ} (x : Fin n → EReal) (W : Fin n → Fin p → EReal) (b : Fin p → EReal) (k : Fin p) :
    0 ≤ layer x W b k := le_max_right _ _

/-- Entry `k` of the second hidden layer on one row `x`. -/
def hidden {n p q : ℕ} (x : Fin n → EReal) (W1 : Fin n → Fin p → EReal) (b1 : Fin p → EReal)
    (W2 : Fin p → Fin q → EReal) (b2 : Fin q → EReal) (k : Fin q) : EReal :=
  layer (layer x W1 b1) W2 b2 k

/-- One or zero, as a proposition holds or not. -/
def ind (P : Prop) [Decidable P] : EReal := if P then 1 else 0

/-- A sum of nonnegative values times `w` is the sum of the products, at any `w`. -/
theorem sum_mul_of_nonneg {ι : Type} (A : Finset ι) (f : ι → EReal) (hf : ∀ i, 0 ≤ f i) (w : EReal) :
    (∑ i ∈ A, f i) * w = ∑ i ∈ A, f i * w := by
  classical
  induction A using Finset.induction_on with
  | empty => simp
  | insert a A ha ih =>
    rw [Finset.sum_insert ha, Finset.sum_insert ha, EReal.right_distrib_of_nonneg (hf a) (Finset.sum_nonneg fun i _ => hf i), ih]

/-- A sum weighted by the indicator of `P` is the sum over the indices where `P` holds. -/
theorem sum_ind_mul {n : ℕ} (P : Fin n → Prop) [DecidablePred P] (f : Fin n → EReal) :
    (∑ i, ind (P i) * f i) = ∑ i ∈ Finset.univ.filter P, f i := by
  rw [Finset.sum_filter]
  refine Finset.sum_congr rfl fun i _ => ?_
  by_cases h : P i <;> simp [ind, h]

/-- Adding `b` to itself `n` times is the integer `n` times `b`. -/
theorem nsmul_of_int (n : ℕ) (z : ℤ) (h : (n : ℤ) = z) (b : EReal) : n • b = (((z : ℤ) : ℝ) : EReal) * b := by
  rw [EReal.nsmul_eq_mul, ← h, Int.cast_natCast, EReal.coe_natCast]

/-- The equation at one entry, for any selection `P` of `z` of the `N` rows: weight the selected rows' sum by `w` and add `z` times
    `b`, or weight each selected row by `w`, add `b` to each, and sum. -/
theorem pool_entry {N K : ℕ} (P : Fin N → Prop) [DecidablePred P] (z : ℤ) (hz : ((Finset.univ.filter P).card : ℤ) = z)
    (H : Fin N → Fin K → EReal) (hH : ∀ i k, 0 ≤ H i k) (w : Fin K → EReal) (b : EReal) :
    (∑ k, (∑ i, ind (P i) * H i k) * w k) + (((z : ℤ) : ℝ) : EReal) * b
      = ∑ i ∈ Finset.univ.filter P, ((∑ k, H i k * w k) + b) := by
  rw [Finset.sum_add_distrib, Finset.sum_const, nsmul_of_int _ z hz, Finset.sum_comm]
  congr 1
  refine Finset.sum_congr rfl fun k _ => ?_
  rw [sum_ind_mul, sum_mul_of_nonneg _ _ fun i => hH i k]

/-- THE EQUATION. Pool the nonnegative hidden rows over each segment first, then apply the last layer once per segment with the bias
    counted by the segment's length; or apply the last layer to every token, then add up over the segment: the same, entry by entry. -/
theorem pool_then_project {cu : Fin 17 → ℤ} (h : Partition cu) (H : Fin 16384 → Fin 2048 → EReal) (hH : ∀ i k, 0 ≤ H i k)
    (W3 : Fin 2048 → Fin 64 → EReal) (b3 : Fin 64 → EReal) (s : Fin 16) (o : Fin 64) :
    (∑ k, (∑ i : Fin 16384, ind (InSeg cu s i.val) * H i k) * W3 k o) + (((cu s.succ - cu s.castSucc : ℤ) : ℝ) : EReal) * b3 o
      = ∑ i ∈ Finset.univ.filter (fun i : Fin 16384 => InSeg cu s i.val), ((∑ k, H i k * W3 k o) + b3 o) :=
  pool_entry (fun i : Fin 16384 => InSeg cu s i.val) _ (h.card_seg s) H hH (fun k => W3 k o) (b3 o)

end Cert.Maths
-- ==== Proof.Block.lean ====
/- Those terms at an index, as ordinary sums: the 0/1 mask from the boundaries, one block's contribution to the pooled hidden rows,
   and the last layer on the finished accumulator. -/
module

public import proofs.«01_k».proof.Proof.Pieces
public import proofs.«01_k».proof.Proof.Maths
public import Idealize.ShloMosaic.Lib.WordCmp

@[expose] public section

set_option maxRecDepth 16384

noncomputable section

namespace Cert.KernelIdeal.Value

open Idealize.ShloMosaic Idealize.ShloMosaic.TcCoe Idealize.SL.Sem
open Cert.Maths Cert.Segments Idealize.ShloMosaic.WordCmp

/-- The table's seventeen boundaries, as integers. -/
def bounds (T : IVec S17 32) (j : Fin 17) : ℤ := (T (ix1 j)).toInt

/-- Entry `s` of the column of first tokens is boundary `s`. -/
theorem lo_apply (T : IVec S17 32) (s : Fin 16) : lo T (ix2 s 0) = T (ix1 s.castSucc) := by
  fin_cases s <;> rfl

/-- Entry `s` of the column of ends is boundary `s + 1`. -/
theorem hi_apply (T : IVec S17 32) (s : Fin 16) : hi T (ix2 s 0) = T (ix1 s.succ) := by
  fin_cases s <;> rfl

/-- The word the kernel compares at grid position `t`, column `i`, is the token's number. -/
theorem token_toInt (t : ℕ) (ht : t < 8) (i : Fin 2048) :
    (IntOp.addi (Scalar.muli (BitVec.ofNat 32 t) 2048#32) (BitVec.ofNat 32 i.val)).toInt = ((t * 2048 + i.val : ℕ) : ℤ) := by
  have hi := i.isLt
  have e : IntOp.addi (Scalar.muli (BitVec.ofNat 32 t) 2048#32) (BitVec.ofNat 32 i.val) = BitVec.ofNat 32 (t * 2048 + i.val) := by
    show BitVec.ofNat 32 t * BitVec.ofNat 32 2048 + BitVec.ofNat 32 i.val = _
    rw [← BitVec.ofNat_mul, ← BitVec.ofNat_add]
  rw [e, toInt_ofNat_of_lt (by omega)]

/-- The kernel's 0/1 entry, from its two comparisons of a token's word with two boundaries. -/
theorem ind_of_words (x a b : BitVec 32) :
    FloatOps.sitofp (F := Ideal) FTy.f32 (BitVec.setWidth 32 (IntOp.andi (IntOp.cmpi .sge x a) (IntOp.cmpi .slt x b)))
      = ind (a.toInt ≤ x.toInt ∧ x.toInt < b.toInt) := by
  rw [cmpi_sge_eq, cmpi_slt_eq]
  by_cases h1 : a.toInt ≤ x.toInt <;> by_cases h2 : x.toInt < b.toInt <;>
    simp [h1, h2, ind, IntOp.andi, FloatOps.sitofp]

/-- The mask's entry at row `s`, column `i` of grid position `t`: one if token `2048 t + i` lies in segment `s`, else zero. -/
theorem mask_apply (T : IVec S17 32) (t : ℕ) (ht : t < 8) (s : Fin 16) (i : Fin 2048) :
    mask (BitVec.ofNat 32 t) T (ix2 s i) = ind (InSeg (bounds T) s (t * 2048 + i.val)) := by
  have hh := hi_apply T s
  unfold hi at hh
  unfold mask
  pointwise [Gen.k0_pay11, Gen.k0_pay8]
  rw [hh, lo_apply, ind_of_words, token_toInt t ht i]
  rfl

/-- One block's contribution at row `s`, entry `k`: the sum over the block's 2048 tokens of the mask's entry times entry `k` of the
    token's second hidden layer. -/
theorem part_apply (n : BitVec 32) (T : IVec S17 32) (x0 : FVec Ideal S2048x512 .f32) (x1 : FVec Ideal S512x2048 .f32) (x2 : FVec Ideal S1x2048 .f32)
    (x3 : FVec Ideal S2048x2048 .f32) (x4 : FVec Ideal S1x2048 .f32) (s : Fin 16) (k : Fin 2048) :
    part n T x0 x1 x2 x3 x4 (ix2 s k)
      = ∑ i : Fin 2048, mask n T (ix2 s i) * hidden (fun l => x0 (ix2 i l)) (fun l k => x1 (ix2 l k)) (fun k => x2 (ix2 0 k))
          (fun l k => x3 (ix2 l k)) (fun k => x4 (ix2 0 k)) k := by
  unfold part
  pointwise [Gen.k0_pay1, Gen.k0_pay7, Gen.k0_pay6, Gen.k0_pay12, Gen.k0_pay5, upper, lower]
  exact (Fin.sum_univ_two_halves 1024 1024 rfl fun i : Fin 2048 => mask n T (ix2 s i) * hidden (fun l => x0 (ix2 i l))
    (fun l k => x1 (ix2 l k)) (fun k => x2 (ix2 0 k)) (fun l k => x3 (ix2 l k)) (fun k => x4 (ix2 0 k)) k).symm

/-- What the last grid point stores at segment `s`, entry `o`: the pooled hidden row through the last layer's weights, plus the
    segment's length (the difference of its two boundaries, as words) times the bias. -/
theorem project_apply (T : IVec S17 32) (acc : FVec Ideal S16x2048 .f32) (x5 : FVec Ideal S2048x64 .f32) (x6 : FVec Ideal S1x64 .f32)
    (s : Fin 16) (o : Fin 64) :
    Gen.k0_pay4 (lo T) (hi T) acc x5 x6 (ix2 s o)
      = (∑ k, acc (ix2 s k) * x5 (ix2 k o)) + (((T (ix1 s.succ) - T (ix1 s.castSucc)).toInt : ℝ) : EReal) * x6 (ix2 0 o) := by
  pointwise [Gen.k0_pay4]
  rw [hi_apply, lo_apply]
  rfl

end Cert.KernelIdeal.Value
-- ==== Proof.Staged.lean ====
/- Which part of each argument array a grid point sees: 2048 consecutive rows of the tokens, the weights and biases whole, the table
   of boundaries as launched. -/
module

public import proofs.«01_k».proof.Proof.Block

@[expose] public section

set_option maxRecDepth 16384

noncomputable section

namespace Cert.KernelIdeal.Value

open Idealize.ShloMosaic Idealize.ShloMosaic.TcCoe Idealize.SL.Sem

variable (m : (ℓ : Loc nD τ sig) → Buf (Elt Ideal) ℓ) (hO : Gen.Ok m)

/-- Window 0's block index at grid point `t` is `t` on the rows, 0 on the columns. -/
theorem index_flat (a : (pcfg0 (F := Ideal)).Adm) : ∀ t : Fin (cfg0 a).N, (pcfg0.win a 0).index t = ![t.val, 0] :=
  (by decide +kernel : ∀ t : Fin grid0.N, cc0_transform_0 (grid0.coords t) = ![t.val, 0])

/-- The grid has one axis: point `t` is at coordinate `t`. -/
theorem coord_eq : ∀ t : Fin grid0.N, (grid0.coords t 0).val = t.val := by decide +kernel

/-- The first layer's bias reaches the kernel as a matrix of one row, -/
theorem entry_b1 (c : Dev nD) : Gen.V m c main_v0 = shapeCast S1x2048 (m ((c : Thread nD τ).loc main_arg3) : FVec Ideal S2048 .f32) Gen.shapeCasts_S2048_S1x2048 := by
  entry_read
  rfl

/-- and so do the second layer's -/
theorem entry_b2 (c : Dev nD) : Gen.V m c main_v1 = shapeCast S1x2048 (m ((c : Thread nD τ).loc main_arg5) : FVec Ideal S2048 .f32) Gen.shapeCasts_S2048_S1x2048 := by
  entry_read
  rfl

/-- and the last layer's. -/
theorem entry_b3 (c : Dev nD) : Gen.V m c main_v2 = shapeCast S1x64 (m ((c : Thread nD τ).loc main_arg7) : FVec Ideal S64 .f32) Gen.shapeCasts_S64_S1x64 := by
  entry_read
  rfl

/-- The table of boundaries. -/
def table : IVec S17 32 := m (((0 : Dev nD) : Thread nD τ).loc main_arg1)

/-- The table the launch stages is the boundaries' array as launched. -/
theorem table_eq : Gen.tbl m 0 = table m := Gen.V_main_arg1 m 0

/-- Window 0's block at grid point `t`. -/
def flatAt (c : Dev nD) (t : Fin (Gen.cfgM m hO).N) : FVec Ideal S2048x512 .f32 := Gen.iblk m hO c 0 t

/-- Row `i` of the tokens' block at grid point `t` is row `2048 t + i` of the tokens. -/
theorem block_flat (c : Dev nD) (t : Fin (Gen.cfgM m hO).N) (i : Fin 2048) (l : Fin 512) (h : t.val * 2048 + i.val < 16384) :
    flatAt m hO c t (ix2 i l)
      = (m ((c : Thread nD τ).loc main_arg0) : FVec Ideal S16384x512 .f32) (ix2 ⟨t.val * 2048 + i.val, h⟩ l) := by
  blk_ext [flatAt, Gen.iblk, Gen.V]
  · exact congrArg (fun n => n * 2048 + i.val) (congrFun (index_flat (Gen.adm m hO) t) 0)
  · exact (congrArg (fun n => n * 512 + l.val) (congrFun (index_flat (Gen.adm m hO) t) 1)).trans (by simp)

/-- Window 1's block at grid point `t`. -/
def w1At (c : Dev nD) (t : Fin (Gen.cfgM m hO).N) : FVec Ideal S512x2048 .f32 := Gen.iblk m hO c 1 t

/-- The first layer's weights are staged whole at every grid point, -/
theorem block_w1 (c : Dev nD) (t : Fin (Gen.cfgM m hO).N) (l : Fin 512) (k : Fin 2048) :
    w1At m hO c t (ix2 l k) = (m ((c : Thread nD τ).loc main_arg2) : FVec Ideal S512x2048 .f32) (ix2 l k) := by
  blk_ext [w1At, Gen.iblk, Gen.V]
  · exact (congrArg (fun n => n * 512 + l.val) (rfl : _ = 0)).trans (by simp)
  · exact (congrArg (fun n => n * 2048 + k.val) (rfl : _ = 0)).trans (by simp)

/-- Window 3's block at grid point `t`. -/
def w2At (c : Dev nD) (t : Fin (Gen.cfgM m hO).N) : FVec Ideal S2048x2048 .f32 := Gen.iblk m hO c 3 t

/-- so are the second layer's -/
theorem block_w2 (c : Dev nD) (t : Fin (Gen.cfgM m hO).N) (l : Fin 2048) (k : Fin 2048) :
    w2At m hO c t (ix2 l k) = (m ((c : Thread nD τ).loc main_arg4) : FVec Ideal S2048x2048 .f32) (ix2 l k) := by
  blk_ext [w2At, Gen.iblk, Gen.V]
  · exact (congrArg (fun n => n * 2048 + l.val) (rfl : _ = 0)).trans (by simp)
  · exact (congrArg (fun n => n * 2048 + k.val) (rfl : _ = 0)).trans (by simp)

/-- Window 5's block at grid point `t`. -/
def w3At (c : Dev nD) (t : Fin (Gen.cfgM m hO).N) : FVec Ideal S2048x64 .f32 := Gen.iblk m hO c 5 t

/-- and the last layer's; -/
theorem block_w3 (c : Dev nD) (t : Fin (Gen.cfgM m hO).N) (l : Fin 2048) (k : Fin 64) :
    w3At m hO c t (ix2 l k) = (m ((c : Thread nD τ).loc main_arg6) : FVec Ideal S2048x64 .f32) (ix2 l k) := by
  blk_ext [w3At, Gen.iblk, Gen.V]
  · exact (congrArg (fun n => n * 2048 + l.val) (rfl : _ = 0)).trans (by simp)
  · exact (congrArg (fun n => n * 64 + k.val) (rfl : _ = 0)).trans (by simp)

/-- Window 2's block at grid point `t`. -/
def b1At (c : Dev nD) (t : Fin (Gen.cfgM m hO).N) : FVec Ideal S1x2048 .f32 := Gen.iblk m hO c 2 t

/-- so are the first layer's bias, -/
theorem block_b1 (c : Dev nD) (t : Fin (Gen.cfgM m hO).N) (k : Fin 2048) :
    b1At m hO c t (ix2 0 k) = (m ((c : Thread nD τ).loc main_arg3) : FVec Ideal S2048 .f32) (ix1 k) := by
  have e : b1At m hO c t (ix2 0 k) = (Gen.V m c main_v0 : FVec Ideal S1x2048 .f32) (ix2 0 k) := by
    unfold b1At Gen.iblk
    generalize Gen.V m c = v
    blk_ext
    · rfl
    · exact (congrArg (fun n => n * 2048 + k.val) (rfl : _ = 0)).trans (by simp)
  rw [e, entry_b1]
  pointwise

/-- Window 4's block at grid point `t`. -/
def b2At (c : Dev nD) (t : Fin (Gen.cfgM m hO).N) : FVec Ideal S1x2048 .f32 := Gen.iblk m hO c 4 t

/-- the second's -/
theorem block_b2 (c : Dev nD) (t : Fin (Gen.cfgM m hO).N) (k : Fin 2048) :
    b2At m hO c t (ix2 0 k) = (m ((c : Thread nD τ).loc main_arg5) : FVec Ideal S2048 .f32) (ix1 k) := by
  have e : b2At m hO c t (ix2 0 k) = (Gen.V m c main_v1 : FVec Ideal S1x2048 .f32) (ix2 0 k) := by
    unfold b2At Gen.iblk
    generalize Gen.V m c = v
    blk_ext
    · rfl
    · exact (congrArg (fun n => n * 2048 + k.val) (rfl : _ = 0)).trans (by simp)
  rw [e, entry_b2]
  pointwise

/-- Window 6's block at grid point `t`. -/
def b3At (c : Dev nD) (t : Fin (Gen.cfgM m hO).N) : FVec Ideal S1x64 .f32 := Gen.iblk m hO c 6 t

/-- and the last's. -/
theorem block_b3 (c : Dev nD) (t : Fin (Gen.cfgM m hO).N) (k : Fin 64) :
    b3At m hO c t (ix2 0 k) = (m ((c : Thread nD τ).loc main_arg7) : FVec Ideal S64 .f32) (ix1 k) := by
  have e : b3At m hO c t (ix2 0 k) = (Gen.V m c main_v2 : FVec Ideal S1x64 .f32) (ix2 0 k) := by
    unfold b3At Gen.iblk
    generalize Gen.V m c = v
    blk_ext
    · rfl
    · exact (congrArg (fun n => n * 64 + k.val) (rfl : _ = 0)).trans (by simp)
  rw [e, entry_b3]
  pointwise

end Cert.KernelIdeal.Value
-- ==== Proof.Accumulate.lean ====
/- The accumulator over the eight grid points: each adds its block's contribution, so that after the last it holds, for every
   segment, the sum of the hidden rows of the segment's tokens; and what the last grid point stores from it. -/
module

public import proofs.«01_k».proof.Proof.Staged

@[expose] public section

set_option maxRecDepth 16384

noncomputable section

namespace Cert.KernelIdeal.Value

open Idealize.ShloMosaic Idealize.ShloMosaic.TcCoe Idealize.SL.Sem
open Idealize.ShloMosaic.Pipeline (Dat)
open Cert.Maths Cert.Segments

variable (m : (ℓ : Loc nD τ sig) → Buf (Elt Ideal) ℓ) (hO : Gen.Ok m)

/-- The hidden row of token `n`, entry `k`: both layers on the arrays as launched. -/
def row (c : Dev nD) (n : Fin 16384) (k : Fin 2048) : EReal :=
  hidden (fun l => (m ((c : Thread nD τ).loc main_arg0) : FVec Ideal S16384x512 .f32) (ix2 n l))
    (fun l k => (m ((c : Thread nD τ).loc main_arg2) : FVec Ideal S512x2048 .f32) (ix2 l k))
    (fun k => (m ((c : Thread nD τ).loc main_arg3) : FVec Ideal S2048 .f32) (ix1 k))
    (fun l k => (m ((c : Thread nD τ).loc main_arg4) : FVec Ideal S2048x2048 .f32) (ix2 l k))
    (fun k => (m ((c : Thread nD τ).loc main_arg5) : FVec Ideal S2048 .f32) (ix1 k)) k

/-- What grid point `t` adds to the accumulator. -/
def added (c : Dev nD) (t : Fin (Gen.cfgM m hO).N) : FVec Ideal S16x2048 .f32 :=
  part (BitVec.ofNat 32 (grid0.coords t 0).val) (table m) (flatAt m hO c t) (w1At m hO c t) (b1At m hO c t) (w2At m hO c t) (b2At m hO c t)

/-- The first point in these terms; -/
theorem first_at (c : Dev nD) (t : Fin (Gen.cfgM m hO).N) (h0) (h1) (h2) :
    Gen.sout0_A_0 (F := Ideal) c (grid0.coords t) (Gen.ms0_0 m hO t) (Gen.hs0_0 m hO t) (Gen.ms0_1 m hO t) (Gen.hs0_1 m hO t) (Gen.ms0_2 m hO t) (Gen.hs0_2 m hO t) (Gen.ms0_3 m hO t) (Gen.hs0_3 m hO t) (Gen.ms0_4 m hO t) (Gen.hs0_4 m hO t) (Gen.ms0_5 m hO t) (Gen.hs0_5 m hO t) (Gen.ms0_6 m hO t) (Gen.hs0_6 m hO t) (Gen.ms0_7 m hO t) (Gen.hs0_7 m hO t) Gen.scM0_0 (Memref.isWhole_whole _) h0 h1 h2 (Gen.iblk m hO c 0 t) (Gen.iblk m hO c 1 t) (Gen.iblk m hO c 2 t) (Gen.iblk m hO c 3 t) (Gen.iblk m hO c 4 t) (Gen.iblk m hO c 5 t) (Gen.iblk m hO c 6 t) (Gen.tbl m 0)
      = shapeCast S16x2048 (added m hO c t) Gen.shapeCasts_S16x2048_S16x2048 :=
  scratch_first c (grid0.coords t) _ _ _ _ _ _ _ _

/-- a middle one; -/
theorem middle_at (c : Dev nD) (t : Fin (Gen.cfgM m hO).N) (h0) (h1) (h2) (acc : FVec Ideal S16x2048 .f32) :
    Gen.sout0_B_0 (F := Ideal) c (grid0.coords t) (Gen.ms0_0 m hO t) (Gen.hs0_0 m hO t) (Gen.ms0_1 m hO t) (Gen.hs0_1 m hO t) (Gen.ms0_2 m hO t) (Gen.hs0_2 m hO t) (Gen.ms0_3 m hO t) (Gen.hs0_3 m hO t) (Gen.ms0_4 m hO t) (Gen.hs0_4 m hO t) (Gen.ms0_5 m hO t) (Gen.hs0_5 m hO t) (Gen.ms0_6 m hO t) (Gen.hs0_6 m hO t) (Gen.ms0_7 m hO t) (Gen.hs0_7 m hO t) Gen.scM0_0 (Memref.isWhole_whole _) h0 h1 h2 (Gen.iblk m hO c 0 t) (Gen.iblk m hO c 1 t) (Gen.iblk m hO c 2 t) (Gen.iblk m hO c 3 t) (Gen.iblk m hO c 4 t) (Gen.iblk m hO c 5 t) (Gen.iblk m hO c 6 t) (Gen.tbl m 0) acc
      = shapeCast S16x2048 (addf acc (added m hO c t)) Gen.shapeCasts_S16x2048_S16x2048 :=
  scratch_middle c (grid0.coords t) _ _ _ _ _ _ _ _ _

/-- the last, -/
theorem last_at (c : Dev nD) (t : Fin (Gen.cfgM m hO).N) (h0) (h1) (h2) (acc : FVec Ideal S16x2048 .f32) :
    Gen.sout0_C_0 (F := Ideal) c (grid0.coords t) (Gen.ms0_0 m hO t) (Gen.hs0_0 m hO t) (Gen.ms0_1 m hO t) (Gen.hs0_1 m hO t) (Gen.ms0_2 m hO t) (Gen.hs0_2 m hO t) (Gen.ms0_3 m hO t) (Gen.hs0_3 m hO t) (Gen.ms0_4 m hO t) (Gen.hs0_4 m hO t) (Gen.ms0_5 m hO t) (Gen.hs0_5 m hO t) (Gen.ms0_6 m hO t) (Gen.hs0_6 m hO t) (Gen.ms0_7 m hO t) (Gen.hs0_7 m hO t) Gen.scM0_0 (Memref.isWhole_whole _) h0 h1 h2 (Gen.iblk m hO c 0 t) (Gen.iblk m hO c 1 t) (Gen.iblk m hO c 2 t) (Gen.iblk m hO c 3 t) (Gen.iblk m hO c 4 t) (Gen.iblk m hO c 5 t) (Gen.iblk m hO c 6 t) (Gen.tbl m 0) acc
      = shapeCast S16x2048 (addf acc (added m hO c t)) Gen.shapeCasts_S16x2048_S16x2048 :=
  scratch_last c (grid0.coords t) _ _ _ _ _ _ _ _ _

/-- and what it stores. -/
theorem stored_at (c : Dev nD) (t : Fin (Gen.cfgM m hO).N) (h0) (h1) (h2) (acc : FVec Ideal S16x2048 .f32) :
    Gen.out0_C_7 (F := Ideal) c (grid0.coords t) (Gen.ms0_0 m hO t) (Gen.hs0_0 m hO t) (Gen.ms0_1 m hO t) (Gen.hs0_1 m hO t) (Gen.ms0_2 m hO t) (Gen.hs0_2 m hO t) (Gen.ms0_3 m hO t) (Gen.hs0_3 m hO t) (Gen.ms0_4 m hO t) (Gen.hs0_4 m hO t) (Gen.ms0_5 m hO t) (Gen.hs0_5 m hO t) (Gen.ms0_6 m hO t) (Gen.hs0_6 m hO t) (Gen.ms0_7 m hO t) (Gen.hs0_7 m hO t) Gen.scM0_0 (Memref.isWhole_whole _) h0 h1 h2 (Gen.iblk m hO c 0 t) (Gen.iblk m hO c 1 t) (Gen.iblk m hO c 2 t) (Gen.iblk m hO c 3 t) (Gen.iblk m hO c 4 t) (Gen.iblk m hO c 5 t) (Gen.iblk m hO c 6 t) (Gen.tbl m 0) acc
      = Gen.k0_pay4 (lo (table m)) (hi (table m)) (shapeCast S16x2048 (addf acc (added m hO c t)) Gen.shapeCasts_S16x2048_S16x2048) (w3At m hO c t) (b3At m hO c t) :=
  output_last c (grid0.coords t) _ _ _ _ _ _ _ _ _

/-- The first point's accumulator is what it adds; -/
theorem acc_first (c : Dev nD) (t : Fin (Gen.cfgM m hO).N) (h0 : t.val % 8 = 0) (h1 : ¬1 ≤ t.val) (h2 : ¬t.val % 8 = 7) :
    (Gen.outsAt0 m hO c t.val t.isLt).2 = added m hO c t := by
  have e := first_at m hO c t ((Gen.hcond0_0 t).mpr h0) (fun h => h1 ((Gen.hcond0_1 t).mp h)) (fun h => h2 ((Gen.hcond0_2 t).mp h))
  rw [shapeCast_self] at e
  rw [← e, Gen.outsAt0_A m hO c t h0 h1 h2]

/-- a middle point's is the one before's plus what it adds; -/
theorem acc_middle (c : Dev nD) (t : Fin (Gen.cfgM m hO).N) (h0 : ¬t.val % 8 = 0) (h1 : 1 ≤ t.val) (h2 : ¬t.val % 8 = 7) :
    (Gen.outsAt0 m hO c t.val t.isLt).2 = addf (F := Ideal) (φ := .f32) (Gen.outsAt0 m hO c (t.val - 1) (Nat.lt_of_le_of_lt (Nat.sub_le _ _) t.isLt)).2 (added m hO c t) := by
  have e := middle_at m hO c t (fun h => h0 ((Gen.hcond0_0 t).mp h)) ((Gen.hcond0_1 t).mpr h1) (fun h => h2 ((Gen.hcond0_2 t).mp h)) (Gen.outsAt0 m hO c (t.val - 1) (Nat.lt_of_le_of_lt (Nat.sub_le _ _) t.isLt)).2
  rw [shapeCast_self] at e
  rw [← e, Gen.outsAt0_B m hO c t h0 h1 h2]

/-- so is the last point's, -/
theorem acc_last (c : Dev nD) (t : Fin (Gen.cfgM m hO).N) (h0 : ¬t.val % 8 = 0) (h1 : 1 ≤ t.val) (h2 : t.val % 8 = 7) :
    (Gen.outsAt0 m hO c t.val t.isLt).2 = addf (F := Ideal) (φ := .f32) (Gen.outsAt0 m hO c (t.val - 1) (Nat.lt_of_le_of_lt (Nat.sub_le _ _) t.isLt)).2 (added m hO c t) := by
  have e := last_at m hO c t (fun h => h0 ((Gen.hcond0_0 t).mp h)) ((Gen.hcond0_1 t).mpr h1) ((Gen.hcond0_2 t).mpr h2) (Gen.outsAt0 m hO c (t.val - 1) (Nat.lt_of_le_of_lt (Nat.sub_le _ _) t.isLt)).2
  rw [shapeCast_self] at e
  rw [← e, Gen.outsAt0_C m hO c t h0 h1 h2]

/-- on which it stores the last layer. -/
theorem stored_last (c : Dev nD) (t : Fin (Gen.cfgM m hO).N) (h0 : ¬t.val % 8 = 0) (h1 : 1 ≤ t.val) (h2 : t.val % 8 = 7) :
    (Gen.outsAt0 m hO c t.val t.isLt).1
      = Gen.k0_pay4 (lo (table m)) (hi (table m)) (Gen.outsAt0 m hO c t.val t.isLt).2 (w3At m hO c t) (b3At m hO c t) := by
  have e := stored_at m hO c t (fun h => h0 ((Gen.hcond0_0 t).mp h)) ((Gen.hcond0_1 t).mpr h1) ((Gen.hcond0_2 t).mpr h2) (Gen.outsAt0 m hO c (t.val - 1) (Nat.lt_of_le_of_lt (Nat.sub_le _ _) t.isLt)).2
  rw [shapeCast_self] at e
  rw [acc_last m hO c t h0 h1 h2, ← e, Gen.outsAt0_C m hO c t h0 h1 h2]

/-- Both layers depend on their arrays by their entries alone. -/
theorem hidden_congr {D E G : ℕ} {x x' : Fin D → EReal} {W1 W1' : Fin D → Fin E → EReal} {b1 b1' : Fin E → EReal} {W2 W2' : Fin E → Fin G → EReal} {b2 b2' : Fin G → EReal}
    (hx : ∀ l, x l = x' l) (hW1 : ∀ l k, W1 l k = W1' l k) (hb1 : ∀ k, b1 k = b1' k) (hW2 : ∀ l k, W2 l k = W2' l k) (hb2 : ∀ k, b2 k = b2' k) (k) :
    hidden x W1 b1 W2 b2 k = hidden x' W1' b1' W2' b2' k := by
  obtain rfl := funext hx
  obtain rfl := funext fun l => funext (hW1 l)
  obtain rfl := funext hb1
  obtain rfl := funext fun l => funext (hW2 l)
  obtain rfl := funext hb2
  rfl

/-- What point `t` adds, by tokens: over its 2048 tokens, the hidden rows of those in the segment. -/
theorem added_apply (c : Dev nD) (t : Fin (Gen.cfgM m hO).N) (s : Fin 16) (k : Fin 2048) :
    added m hO c t (ix2 s k)
      = ∑ i : Fin 2048, ind (InSeg (bounds (table m)) s (t.val * 2048 + i.val))
          * row m c ⟨t.val * 2048 + i.val, by have := lt_of_lt_of_eq t.isLt Gen.N_0; omega⟩ k := by
  have hN : t.val < 8 := lt_of_lt_of_eq t.isLt Gen.N_0
  unfold added
  rw [part_apply]
  refine Finset.sum_congr rfl fun i _ => ?_
  rw [coord_eq, mask_apply _ _ hN]
  exact congrArg (_ * ·) (hidden_congr (fun l => block_flat m hO c t i l _) (block_w1 m hO c t) (block_b1 m hO c t) (block_w2 m hO c t) (block_b2 m hO c t) k)

/-- After the last point the accumulator holds, for each segment, the sum of its tokens' hidden rows. -/
theorem acc_total (c : Dev nD) (s : Fin 16) (k : Fin 2048) :
    (Gen.outsAt0 m hO c Gen.t0_7.val Gen.t0_7.isLt).2 (ix2 s k)
      = ∑ n : Fin 16384, ind (InSeg (bounds (table m)) s n.val) * row m c n k := by
  have hN : (Gen.cfgM m hO).N = 8 := Gen.N_0
  have hlt : ∀ t : Fin (Gen.cfgM m hO).N, t.val < 8 := fun t => lt_of_lt_of_eq t.isLt hN
  refine (Pipeline.eq_sum_fin_of_reset_step_apply_last (N := (Gen.cfgM m hO).N) (fun n h => (Gen.outsAt0 m hO c n h).2) 8 (fun _ => (0 : EReal))
    (fun t => added m hO c t) (fun t h i => ?_) (fun t h i => ?_) hN.le Gen.t0_7 hN.symm (ix2 s k)).trans ?_
  · have := hlt t
    exact (congrFun (acc_first m hO c t h (by omega) (by omega)) i).trans (zero_add _).symm
  · by_cases h2 : t.val % 8 = 7
    · exact congrFun (acc_last m hO c t h (by omega) h2) i
    · exact congrFun (acc_middle m hO c t h (by omega) h2) i
  · rw [zero_add, Fin.sum_univ_tiles 8 2048 rfl]
    exact Finset.sum_congr rfl fun t _ => added_apply m hO c t s k

/-- The last point stores the last layer on the finished accumulator, with the bias once for each token the segment counts. -/
theorem stored (c : Dev nD) (s : Fin 16) (o : Fin 64) :
    (Gen.outsAt0 m hO c Gen.t0_7.val Gen.t0_7.isLt).1 (ix2 s o)
      = (∑ k : Fin 2048, (∑ n : Fin 16384, ind (InSeg (bounds (table m)) s n.val) * row m c n k)
            * (m ((c : Thread nD τ).loc main_arg6) : FVec Ideal S2048x64 .f32) (ix2 k o))
          + ((((table m (ix1 s.succ) - table m (ix1 s.castSucc)).toInt : ℤ) : ℝ) : EReal)
            * (m ((c : Thread nD τ).loc main_arg7) : FVec Ideal S64 .f32) (ix1 o) := by
  rw [stored_last m hO c Gen.t0_7 (show ¬7 % 8 = 0 by decide) (show 1 ≤ 7 by decide) (show 7 % 8 = 7 by decide), project_apply, block_b3]
  refine congrArg₂ (· + ·) (Finset.sum_congr rfl fun k _ => ?_) rfl
  rw [acc_total, block_w3]

end Cert.KernelIdeal.Value
-- ==== Proof.Result.lean ====
/- The array that the kernel's run ends with: written back once, after the last grid point, it holds what that point stored. -/
module

public import proofs.«01_k».proof.Proof.Accumulate

@[expose] public section

set_option maxRecDepth 16384

noncomputable section

namespace Cert.KernelIdeal.Value

open Idealize.ShloMosaic Idealize.ShloMosaic.TcCoe Idealize.SL.Sem
open Idealize.ShloMosaic.Pipeline (Dat)
open Cert.Maths Cert.Segments

variable (m : (ℓ : Loc nD τ sig) → Buf (Elt Ideal) ℓ) (hO : Gen.Ok m)

/-- The kernel's result at `(s, o)`: the last layer on the sum of segment `s`'s hidden rows, with the bias once for each of its tokens. -/
def entry (c : Dev nD) (s : Fin 16) (o : Fin 64) : EReal :=
  (∑ k : Fin 2048, (∑ n : Fin 16384, ind (InSeg (bounds (table m)) s n.val) * row m c n k)
      * (m ((c : Thread nD τ).loc main_arg6) : FVec Ideal S2048x64 .f32) (ix2 k o))
    + ((((table m (ix1 s.succ) - table m (ix1 s.castSucc)).toInt : ℤ) : ℝ) : EReal)
      * (m ((c : Thread nD τ).loc main_arg7) : FVec Ideal S64 .f32) (ix1 o)

/-- The kernel's result. -/
def value (c : Dev nD) : FVec Ideal S16x64 .f32 := fun j => entry m c (j 0) (j 1)

/-- The output array is written back once, whole, after the last grid point. -/
theorem written_once (a : (pcfg0 (F := Ideal)).Adm) : ((cfg0 a).win 7).WholeAt Gen.t0_7 := by
  refine ⟨(Gen.flush0_7 a Gen.t0_7).mpr (show 7 % 8 = 7 by decide), fun t ht => ?_, fun b => ?_⟩
  · have h := (Gen.flush0_7 a t).mp ht
    have hlt : t.val < 8 := lt_of_lt_of_eq t.isLt Gen.N_0
    exact Fin.ext (show t.val = 7 by omega)
  · match b with
    | ⟨0, _⟩ => exact ⟨rfl, rfl⟩
    | ⟨1, _⟩ => exact ⟨rfl, rfl⟩

/-- So it ends holding what the last grid point stored. -/
theorem final (c : Dev nD) : (Gen.dats m hO 0 c).arrAt 7 (Gen.cfgM m hO).N = value m c := by
  refine (Gen.dats m hO 0 c).arrAt_eq_of_after_last 7 Gen.t0_7 (written_once (Gen.adm m hO)) _ fun j => ?_
  rw [Gen.after0_7 m hO c Gen.t0_7]
  revert j
  intro (j : S16x64.Idx)
  obtain ⟨s, o, rfl⟩ : ∃ (s : Fin 16) (o : Fin 64), j = ix2 s o := ⟨j 0, j 1, eq_ix2 j⟩
  exact stored m hO c s o

end Cert.KernelIdeal.Value
-- ==== Proof.Reference.lean ====
/- The reference's result at an index: the token's segment number from the count of boundaries at or below it, the rows after each
   layer, and their sum by segment. -/
module

public import proofs.«01_k».proof.Proof.Gen.ReferenceIdeal.Run
public import proofs.«01_k».proof.Proof.Maths
public import Idealize.ShloMosaic.Lib.Pointwise
public import Idealize.ShloMosaic.Lib.WordCmp
public import Idealize.ShloMosaic.Lib.WordArith
public import Idealize.ShloMosaic.Lib.StableHlo.Predicate
public import Idealize.ShloMosaic.Lib.SortNet.Extract
public import Idealize.ShloMosaic.Lib.Routing.OpsPair

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Maths Cert.Segments Idealize.ShloMosaic.WordCmp

/-- For each token, how many of the seventeen boundaries are at most its number, as the reference counts them. -/
def counted (x1 : IVec S17 32) : IVec S16384 32 :=
  (Host.reduce IntOp.addi (extui 32 (cmpi .sle (broadcastInDim S16384x17 ![0, 1] bcast_S1x17_S16384x17_0_1 (broadcastInDim S1x17 ![1] bcast_S17_S1x17_1 x1)) (broadcastInDim S16384x17 ![0, 1] bcast_S16384x1_S16384x17_0_1 (broadcastInDim S16384x1 ![0] bcast_S16384_S16384x1_0 (iotaInDim S16384 32 0)))) natLt_1_32) (constantI S_ 32 0#32) reducesTo_S16384x17_S16384_d1 h_S_)

/-- Each token's segment, as the reference computes it: that count less one, clipped to 0 … 15. -/
def seg (x1 : IVec S17 32) : IVec S16384x1 32 :=
  (broadcastInDim S16384x1 ![0] bcast_S16384_S16384x1_0 (minsi (broadcastInDim S16384 ![] bcast_S_S16384 (id (constantI S_ 32 15#32))) (maxsi (broadcastInDim S16384 ![] bcast_S_S16384 (id (constantI S_ 32 0#32))) (subi (counted x1) (broadcastInDim S16384 ![] bcast_S_S16384 (constantI S_ 32 1#32))))))

/-- Every token's row after both hidden layers. -/
def layers (x0 : FVec Ideal S16384x512 .f32) (x2 : FVec Ideal S512x2048 .f32) (x3 : FVec Ideal S2048 .f32) (x4 : FVec Ideal S2048x2048 .f32)
    (x5 : FVec Ideal S2048 .f32) : FVec Ideal S16384x2048 .f32 :=
  (maximumf (addf (Host.dotGeneral dot_S16384x2048_S2048x2048_S16384x2048_1_0_0_1_n_n none (maximumf (addf (Host.dotGeneral dot_S16384x512_S512x2048_S16384x2048_1_0_0_1_n_n none x0 x2) (broadcastInDim S16384x2048 ![0, 1] bcast_S1x2048_S16384x2048_0_1 (broadcastInDim S1x2048 ![1] bcast_S2048_S1x2048_1 x3))) (broadcastInDim S16384x2048 ![] bcast_S_S16384x2048 (constant S_ .f32 0x00000000#32))) x4) (broadcastInDim S16384x2048 ![0, 1] bcast_S1x2048_S16384x2048_0_1 (broadcastInDim S1x2048 ![1] bcast_S2048_S1x2048_1 x5))) (broadcastInDim S16384x2048 ![] bcast_S_S16384x2048 (constant S_ .f32 0x00000000#32)))

/-- Every token's row after the last layer. -/
def rows (h : FVec Ideal S16384x2048 .f32) (x6 : FVec Ideal S2048x64 .f32) (x7 : FVec Ideal S64 .f32) : FVec Ideal S16384x64 .f32 :=
  (addf (Host.dotGeneral dot_S16384x2048_S2048x64_S16384x64_1_0_0_1_n_n none h x6) (broadcastInDim S16384x64 ![0, 1] bcast_S1x64_S16384x64_0_1 (broadcastInDim S1x64 ![1] bcast_S64_S1x64_1 x7)))

/-- The reference's result: the rows added up by segment, from zero. -/
def result (x0 : FVec Ideal S16384x512 .f32) (x1 : IVec S17 32) (x2 : FVec Ideal S512x2048 .f32) (x3 : FVec Ideal S2048 .f32) (x4 : FVec Ideal S2048x2048 .f32)
    (x5 : FVec Ideal S2048 .f32) (x6 : FVec Ideal S2048x64 .f32) (x7 : FVec Ideal S64 .f32) : FVec Ideal S16x64 .f32 :=
  Host.scatterAdd scatter_S16x64_S16384x1_S16384x64_1_0_0_1 (broadcastInDim S16x64 ![] bcast_S_S16x64 (constant S_ .f32 0x00000000#32)) (seg x1) (rows (layers x0 x2 x3 x4 x5) x6 x7)

/-- Entry `(i, k)` of the hidden rows: both layers on token `i`'s row. -/
theorem layers_apply (x0 : FVec Ideal S16384x512 .f32) (x2 : FVec Ideal S512x2048 .f32) (x3 : FVec Ideal S2048 .f32) (x4 : FVec Ideal S2048x2048 .f32)
    (x5 : FVec Ideal S2048 .f32) (i : Fin 16384) (k : Fin 2048) :
    layers x0 x2 x3 x4 x5 (ix2 i k)
      = Maths.hidden (fun l => x0 (ix2 i l)) (fun l k => x2 (ix2 l k)) (fun k => x3 (ix1 k)) (fun l k => x4 (ix2 l k)) (fun k => x5 (ix1 k)) k := by
  pointwise [layers]
  rfl

/-- Entry `(i, o)` of the projected rows. -/
theorem rows_apply (h : FVec Ideal S16384x2048 .f32) (x6 : FVec Ideal S2048x64 .f32) (x7 : FVec Ideal S64 .f32) (i : Fin 16384) (o : Fin 64) :
    rows h x6 x7 (ix2 i o) = (∑ k : Fin 2048, h (ix2 i k) * x6 (ix2 k o)) + x7 (ix1 o) := by
  pointwise [rows]

/-- The reference's comparison of boundary `j` with token `i` is one exactly where the boundary is at most the token's number. -/
theorem counted_toNat (x1 : IVec S17 32) (i : Fin 16384) :
    (counted x1 (ix1 i)).toNat = Segments.count (fun j => (x1 (ix1 j)).toInt) i.val := by
  unfold counted Segments.count
  rw [StableHlo.Predicate.toNat_reduce_count_cols (by decide)]
  refine congrArg Finset.card (Finset.filter_congr fun q _ => ?_)
  have e : (cmpi .sle (broadcastInDim S16384x17 ![0, 1] bcast_S1x17_S16384x17_0_1 (broadcastInDim S1x17 ![1] bcast_S17_S1x17_1 x1)) (broadcastInDim S16384x17 ![0, 1] bcast_S16384x1_S16384x17_0_1 (broadcastInDim S16384x1 ![0] bcast_S16384_S16384x1_0 (iotaInDim S16384 32 0)))) (ix2 i q)
      = IntOp.cmpi .sle (x1 (ix1 q)) (BitVec.ofNat 32 i.val) := by
    pointwise
  refine (iff_of_eq (congrArg (· = 1#1) ((congrArg _ ?_).trans e))).trans ?_
  · funext a
    match a with
    | ⟨0, _⟩ => rfl
    | ⟨1, _⟩ => rfl
  · rw [cmpi_sle_eq, WordArith.ofBool_eq_one_iff, decide_eq_true_iff, WordArith.toInt_ofNat_small _ (by omega)]

/-- A token's segment number, as an integer. -/
theorem seg_toInt (x1 : IVec S17 32) (i : Fin 16384) :
    (seg x1 (ix2 i 0)).toInt = min (15 : ℤ) (max 0 ((Segments.count (fun j => (x1 (ix1 j)).toInt) i.val : ℤ) - 1)) := by
  have e : seg x1 (ix2 i 0) = IntOp.minsi 15#32 (IntOp.maxsi 0#32 (IntOp.subi (counted x1 (ix1 i)) 1#32)) := by
    pointwise [seg]
    rfl
  have hc : Segments.count (fun j => (x1 (ix1 j)).toInt) i.val ≤ 17 := (Finset.card_le_univ _).trans (by simp)
  have ht : (counted x1 (ix1 i)).toInt = (Segments.count (fun j => (x1 (ix1 j)).toInt) i.val : ℤ) := by
    rw [BitVec.toInt_eq_toNat_of_lt (by rw [counted_toNat]; omega), counted_toNat]
  rw [e, SortNet.toInt_minsi, SortNet.toInt_maxsi, WordArith.toInt_subi_of_nonneg _ _ (by omega) (by decide), ht]
  rfl

/-- The update at row `i`, column `o'` lands at `(s, o)` exactly when the row's index word is `s` and the columns agree. -/
theorem lands (idx : IVec S16384x1 32) (i : Fin 16384) (o' : Fin 64) (s : Fin 16) (o : Fin 64) :
    scatter_S16x64_S16384x1_S16384x64_1_0_0_1.resultIdx? (ix2 i o') idx = some (ix2 s o) ↔ (idx (ix2 i 0)).toInt = s.val ∧ o' = o := by
  have w0 : scatter_S16x64_S16384x1_S16384x64_1_0_0_1.window (ix2 i o') 0 = 0 := rfl
  have w1 : scatter_S16x64_S16384x1_S16384x64_1_0_0_1.window (ix2 i o') 1 = o'.val := rfl
  have s0 : scatter_S16x64_S16384x1_S16384x64_1_0_0_1.start (ix2 i o') idx 0 = (idx (ix2 i 0)).toInt := by
    unfold ScatterDims.start
    rw [dif_pos (by decide)]
    congr 2
    funext b
    match b with
    | ⟨0, _⟩ => rfl
    | ⟨1, _⟩ => rfl
  have s1 : scatter_S16x64_S16384x1_S16384x64_1_0_0_1.start (ix2 i o') idx 1 = 0 := rfl
  refine (Routing.resultIdx?_ix2 scatter_S16x64_S16384x1_S16384x64_1_0_0_1 (ix2 i o') idx s o).trans ?_
  rw [s0, w0, s1, w1, Fin.ext_iff]
  omega

/-- A sum over the indices `(i, o')` that satisfy a condition on `i` and have `o' = o` is a sum over the `i` that satisfy it. -/
theorem sum_column {N M : ℕ} (P : (⟨2, ![N, M]⟩ : Shape).Idx → Prop) [DecidablePred P] (Q : Fin N → Prop) [DecidablePred Q] (o : Fin M)
    (h : ∀ i o', P (ix2 i o') ↔ Q i ∧ o' = o) (u : (⟨2, ![N, M]⟩ : Shape).Idx → EReal) :
    ∑ j ∈ Finset.univ.filter P, u j = ∑ i ∈ Finset.univ.filter Q, u (ix2 i o) := by
  have h' : ∀ j : (⟨2, ![N, M]⟩ : Shape).Idx, P j ↔ Q (j 0) ∧ j 1 = o := fun j => by
    have := h (j 0) (j 1)
    rwa [← eq_ix2 j] at this
  refine Finset.sum_bij' (fun j _ => (j 0 : Fin N)) (fun i _ => ix2 i o) (fun j hj => ?_) (fun i hi => ?_) (fun j hj => ?_) (fun i hi => rfl) (fun j hj => ?_)
  · exact Finset.mem_filter.2 ⟨Finset.mem_univ _, ((h' j).1 (Finset.mem_filter.1 hj).2).1⟩
  · exact Finset.mem_filter.2 ⟨Finset.mem_univ _, (h i o).2 ⟨(Finset.mem_filter.1 hi).2, rfl⟩⟩
  · rw [← ((h' j).1 (Finset.mem_filter.1 hj).2).2]
    exact (eq_ix2 j).symm
  · rw [← ((h' j).1 (Finset.mem_filter.1 hj).2).2]
    exact congrArg u (eq_ix2 j)

/-- So the sum into `(s, o)` runs over the rows whose index word is `s`. -/
theorem pooled_apply (z : FVec Ideal S16x64 .f32) (idx : IVec S16384x1 32) (u : FVec Ideal S16384x64 .f32) (s : Fin 16) (o : Fin 64) :
    Host.scatterAdd scatter_S16x64_S16384x1_S16384x64_1_0_0_1 z idx u (ix2 s o)
      = z (ix2 s o) + ∑ i ∈ Finset.univ.filter (fun i : Fin 16384 => (idx (ix2 i 0)).toInt = s.val), u (ix2 i o) := by
  show z (ix2 s o) + ∑ j ∈ Finset.univ.filter (fun j => scatter_S16x64_S16384x1_S16384x64_1_0_0_1.resultIdx? j idx = some (ix2 s o)), u j = _
  exact congrArg (z (ix2 s o) + ·) (sum_column _ _ o (fun i o' => lands idx i o' s o) u)

/-- THE REFERENCE at `(s, o)`, its boundaries a partition: the sum over segment `s`'s tokens of the last layer on their hidden rows. -/
theorem result_apply (x0 : FVec Ideal S16384x512 .f32) (x1 : IVec S17 32) (x2 : FVec Ideal S512x2048 .f32) (x3 : FVec Ideal S2048 .f32) (x4 : FVec Ideal S2048x2048 .f32)
    (x5 : FVec Ideal S2048 .f32) (x6 : FVec Ideal S2048x64 .f32) (x7 : FVec Ideal S64 .f32) (h : Partition fun j => (x1 (ix1 j)).toInt) (s : Fin 16) (o : Fin 64) :
    result x0 x1 x2 x3 x4 x5 x6 x7 (ix2 s o)
      = ∑ i ∈ Finset.univ.filter (fun i : Fin 16384 => InSeg (fun j => (x1 (ix1 j)).toInt) s i.val),
          ((∑ k : Fin 2048, Maths.hidden (fun l => x0 (ix2 i l)) (fun l k => x2 (ix2 l k)) (fun k => x3 (ix1 k)) (fun l k => x4 (ix2 l k)) (fun k => x5 (ix1 k)) k
              * x6 (ix2 k o)) + x7 (ix1 o)) := by
  unfold result
  rw [pooled_apply]
  have hz : (broadcastInDim S16x64 ![] bcast_S_S16x64 (constant (F := Ideal) S_ .f32 0x00000000#32)) (ix2 s o) = (0 : EReal) := by
    pointwise
  rw [hz, zero_add]
  refine Finset.sum_congr (Finset.filter_congr fun i _ => ?_) fun i _ => ?_
  · rw [seg_toInt]
    exact h.clip_iff s i.val i.isLt
  · rw [rows_apply]
    simp only [layers_apply]

end Cert.ReferenceIdeal.Value
-- ==== Proof.Domain.lean ====
/- What the precondition says of the boundaries: as integers, they cut the tokens 0 … 16383 into sixteen consecutive segments. -/
module

public import proofs.«01_k».proof.Proof.Gen.Pre_bounds_partition
public import proofs.«01_k».proof.Proof.Segments
public import Idealize.ShloMosaic.Lib.Pointwise
public import Idealize.ShloMosaic.Lib.WordCmp
public import Idealize.ShloMosaic.Lib.WordArith

@[expose] public section

set_option maxRecDepth 16384

noncomputable section

namespace Cert.Pre_bounds_partition

open Cert.Pre_bounds_partition.Gen Idealize.ShloMosaic Cert.Segments Idealize.ShloMosaic.WordCmp

/-- The precondition says that the boundaries are a partition of the tokens: the first is 0, the last is 16384, none is below the one before. -/
theorem partition_of (x0 : FVec Ideal S16384x512 .f32) (x1 : IVec S17 32) (x2 : FVec Ideal S512x2048 .f32) (x3 : FVec Ideal S2048 .f32)
    (x4 : FVec Ideal S2048x2048 .f32) (x5 : FVec Ideal S2048 .f32) (x6 : FVec Ideal S2048x64 .f32) (x7 : FVec Ideal S64 .f32)
    (h : fn (F := Ideal) x0 x1 x2 x3 x4 x5 x6 x7 = fun _ => 1#1) : Partition fun j => (x1 (ix1 j)).toInt := by
  have at_s (s : Fin 16) : fn (F := Ideal) x0 x1 x2 x3 x4 x5 x6 x7 (ix1 s)
      = IntOp.andi (IntOp.andi (IntOp.cmpi .eq (x1 (ix1 0)) 0#32) (IntOp.cmpi .eq (x1 (ix1 16)) 16384#32))
          (IntOp.cmpi .sle (x1 (ix1 s.castSucc)) (x1 (ix1 s.succ))) := by
    have hs : (⟨1 + s.val, by omega⟩ : Fin 17) = s.succ := Fin.ext (Nat.add_comm 1 s.val)
    pointwise [fn]
    rw [hs]
    rfl
  have split (a b c : BitVec 1) (e : IntOp.andi (IntOp.andi a b) c = 1#1) : a = 1#1 ∧ b = 1#1 ∧ c = 1#1 := by
    revert a b c
    decide
  have all (s : Fin 16) := split _ _ _ ((at_s s).symm.trans (congrFun h (ix1 s)))
  refine ⟨?_, ?_, fun s => ?_⟩
  · have e := (all 0).1
    rw [cmpi_eq_eq, WordArith.ofBool_eq_one_iff] at e
    show (x1 (ix1 0)).toInt = 0
    rw [of_decide_eq_true e]
    rfl
  · have e := (all 0).2.1
    rw [cmpi_eq_eq, WordArith.ofBool_eq_one_iff] at e
    show (x1 (ix1 16)).toInt = 16384
    rw [of_decide_eq_true e]
    rfl
  · have e := (all s).2.2
    rw [cmpi_sle_eq, WordArith.ofBool_eq_one_iff, decide_eq_true_iff] at e
    exact e

end Cert.Pre_bounds_partition
-- ==== Proof.Equation.lean ====
/- The equation: the kernel pools the hidden rows and then applies the last layer, its bias once for each token of the segment; the
   reference applies the last layer to every row and then pools. On equal arrays the two results are equal. -/
module

public import proofs.«01_k».proof.Proof.Result
public import proofs.«01_k».proof.Proof.Reference
public import proofs.«01_k».proof.Proof.Domain

@[expose] public section

set_option maxRecDepth 16384

noncomputable section

namespace Cert.KernelIdeal.Value

open Idealize.ShloMosaic Idealize.ShloMosaic.TcCoe Idealize.SL.Sem
open Cert.Maths Cert.Segments

variable (m : (ℓ : Loc nD τ sig) → Buf (Elt Ideal) ℓ)

/-- Both layers end in a maximum with zero, so a hidden row has no negative entry. -/
theorem row_nonneg (c : Dev nD) (n : Fin 16384) (k : Fin 2048) : 0 ≤ row m c n k := by
  unfold row Maths.hidden
  exact layer_nonneg _ _ _ _

/-- The kernel's one subtraction of words, boundary `s + 1` less boundary `s`, does not wrap: it is the segment's length. -/
theorem length_toInt (h : Partition (bounds (table m))) (s : Fin 16) :
    (table m (ix1 s.succ) - table m (ix1 s.castSucc)).toInt = bounds (table m) s.succ - bounds (table m) s.castSucc := by
  have h1 := h.nonneg s.succ
  have h2 := h.le_last s.succ
  have h3 := h.nonneg s.castSucc
  have h4 := h.le_last s.castSucc
  unfold bounds at *
  exact WordArith.toInt_sub_of_bounds _ _ (by omega) (by omega)

/-- Where the boundaries are a partition of the tokens, the kernel's result is the reference's, on the same arrays. -/
theorem value_eq_result (h : Partition (bounds (table m))) (c : Dev nD) :
    value m c = Cert.ReferenceIdeal.Value.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := by
  obtain rfl : c = 0 := Subsingleton.elim _ _
  funext j
  obtain ⟨s, o, rfl⟩ : ∃ (s : Fin 16) (o : Fin 64), j = ix2 s o := ⟨j 0, j 1, eq_ix2 j⟩
  refine Eq.trans ?_ (Cert.ReferenceIdeal.Value.result_apply _ _ _ _ _ _ _ _ h s o).symm
  show entry m 0 s o = _
  unfold entry
  rw [length_toInt m h]
  exact pool_then_project h (row m 0) (row_nonneg m 0) (fun k o => (m (((0 : Dev nD) : Thread nD τ).loc main_arg6) : FVec Ideal S2048x64 .f32) (ix2 k o))
    (fun o => (m (((0 : Dev nD) : Thread nD τ).loc main_arg7) : FVec Ideal S64 .f32) (ix1 o)) s o

end Cert.KernelIdeal.Value
-- ==== Proof.lean ====
/-
  The certificate: the claims assembled from the modules under Proof/.

  The mathematics, which names no program: Segments (boundaries that partition the tokens, and how many of them lie at or before a
  token) and Maths (the two layers, and the equation: pooling the hidden rows before the last layer or the projected rows after it).
  The kernel: Pieces (what one grid point computes, as terms), Block (those terms at an index), Staged (which part of each array a
  grid point sees), Accumulate (the accumulator over the grid), Result (the array the run ends with).
  The reference: Reference (its result at an index). The precondition: Domain (what it says of the boundaries).
  Equation: the kernel's result is the reference's.
-/
module

public import proofs.«01_k».proof.Defs
public import proofs.«01_k».proof.Proof.Gen.Kernel.Frame
public import proofs.«01_k».proof.Proof.Equation
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.ShloMosaic.TcCoe Idealize.SL.Sem

/-- The precondition, read at the kernel's table. -/
theorem partition_of_pre (m : (ℓ : Loc Cert.KernelIdeal.nD Cert.KernelIdeal.τ Cert.KernelIdeal.sig) → Buf (Elt Ideal) ℓ)
    (h : Cert.Pre_KernelIdeal_bounds_partition m) : Cert.Segments.Partition (Cert.KernelIdeal.Value.bounds (Cert.KernelIdeal.Value.table m)) :=
  Cert.Pre_bounds_partition.partition_of _ _ _ _ _ _ _ _ (h 0)

/-- The reference ends with its arguments as launched and every counter at zero: it declares no semaphore. -/
theorem reference_frame : Cert.quiescent_ReferenceIdeal := by
  intro m ρ _
  exact (θ_run _ _ _).mono (fun r h => ⟨fun c => (h c).2, sem_eq_zero_of_no_sems (by decide) r.2⟩) (Cert.ReferenceIdeal.Value.run m ρ)

/-- From arrays that agree, the boundaries a partition of the tokens, both programs end with the same result, their arguments as launched. -/
theorem same_result : Cert.algebraic_KernelIdeal_ReferenceIdeal_pre_bounds_partition := by
  intro m g m' g' hpre hagree
  refine ⟨fun c => Cert.KernelIdeal.Value.value m c, ?_, ?_⟩
  · exact (θ_run _ _ _).mono (fun r h c => ⟨((h.1 c).1 7).trans (Cert.KernelIdeal.Value.final m trivial c), h.2 c⟩)
      (θ_run_and (Cert.KernelIdeal.Gen.run_main m g trivial) (Cert.KernelIdeal.Gen.unchanged m g trivial))
  · refine (θ_run _ _ _).mono (fun r h c => ⟨(h c).1.trans ?_, (h c).2⟩) (Cert.ReferenceIdeal.Value.run m' g')
    obtain ⟨e0, e1, e2, e3, e4, e5, e6, e7⟩ := hagree c
    rw [e0, e1, e2, e3, e4, e5, e6, e7]
    exact (Cert.KernelIdeal.Value.value_eq_result m (partition_of_pre m hpre) c).symm

/-- The claims. -/
theorem claim : Cert.Claim :=
  ⟨Cert.Kernel.Gen.facts, Cert.KernelIdeal.Gen.facts, Cert.ReferenceIdeal.Gen.facts, Cert.Pre_bounds_partition.Gen.facts,
    fun m ρ _ => Cert.Kernel.Gen.frame m ρ trivial,
    fun m ρ _ => Cert.KernelIdeal.Gen.frame m ρ trivial,
    fun m ρ _ => Cert.KernelIdeal.Gen.frame m ρ trivial,
    reference_frame,
    fun m ρ _ => reference_frame m ρ trivial,
    trivial,
    same_result⟩

end Cert.Proof

end
